-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_order [hPre_indices_in_order : Cert.Pre_indices_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_order [hPre_indices_in_order : Cert.Pre_indices_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_indices_in_order [hKernelIdeal : Cert.KernelIdeal.Facts] [hPre_indices_in_order : Cert.Pre_indices_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_indices_in_order [hReferenceIdeal : Cert.ReferenceIdeal.Facts] [hPre_indices_in_order : Cert.Pre_indices_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_indices_in_order [hKernelIdeal : Cert.KernelIdeal.Facts] [hReferenceIdeal : Cert.ReferenceIdeal.Facts] [hPre_indices_in_order : Cert.Pre_indices_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_indices_in_order : Cert.Pre_indices_in_order.Facts),
    quiescent_Kernel (hKernel := hKernel)
    ∧ quiescent_KernelIdeal (hKernelIdeal := hKernelIdeal)
    ∧ quiescent_KernelIdeal_pre_indices_in_order (hKernelIdeal := hKernelIdeal) (hPre_indices_in_order := hPre_indices_in_order)
    ∧ quiescent_ReferenceIdeal (hReferenceIdeal := hReferenceIdeal)
    ∧ quiescent_ReferenceIdeal_pre_indices_in_order (hReferenceIdeal := hReferenceIdeal) (hPre_indices_in_order := hPre_indices_in_order)
    ∧ preserves_Kernel_KernelIdeal
    ∧ algebraic_KernelIdeal_ReferenceIdeal_pre_indices_in_order (hKernelIdeal := hKernelIdeal) (hReferenceIdeal := hReferenceIdeal) (hPre_indices_in_order := hPre_indices_in_order)
-- ==== Pre_indices_in_order.lean ====
abbrev S65536x128 : Shape := ⟨2, ![65536, 128]⟩
abbrev S64 : Shape := ⟨1, ![64]⟩
abbrev S_ : Shape := ⟨0, ![]⟩

class Facts : Prop where
  reducesTo_S64_S_d0 : S64.ReducesTo [0] S_
  h_S_ : 0 < S_.numel

variable [Facts]

def fn {F : FTy → Type} [FloatOps F] (main_arg0 : FVec F S65536x128 .f32) (main_arg1 : IVec S64 32) : IVec S_ 1 :=
  let main_v0 : IVec S64 32 := iotaInDim S64 32 0
  let main_v1 : IVec S64 1 := cmpi .eq main_arg1 main_v0
  let main_c : IVec S_ 1 := constantI S_ 1 1#1
  let main_v2 : IVec S_ 1 := (fun x v => Host.reduce IntOp.andi x v reducesTo_S64_S_d0 h_S_) main_v1 main_c
  main_v2
-- ==== Kernel.lean ====
abbrev S65536x128 : Shape := ⟨2, ![65536, 128]⟩
abbrev S64 : Shape := ⟨1, ![64]⟩
abbrev S8192x128 : Shape := ⟨2, ![8192, 128]⟩
abbrev S8192x64 : Shape := ⟨2, ![8192, 64]⟩
abbrev S64x8192 : Shape := ⟨2, ![64, 8192]⟩
abbrev S8x8192 : Shape := ⟨2, ![8, 8192]⟩

abbrev nBuf : Space → Nat
  | .hbm => 3
  | .vmem => 4
  | .smem => 0
  | _ => 0

abbrev bufTy : (tb : Table) → Fin (tcTables nBuf tb) → BufTy
  | .hbm, ⟨0, _⟩ => ⟨S65536x128, .f32⟩
  | .hbm, ⟨1, _⟩ => ⟨S64, .i32⟩
  | .hbm, ⟨2, _⟩ => ⟨S65536x128, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S65536x128 : Shape := ⟨2, ![65536, 128]⟩
abbrev S64 : Shape := ⟨1, ![64]⟩
abbrev S_ : Shape := ⟨0, ![]⟩
abbrev S64x1 : Shape := ⟨2, ![64, 1]⟩
abbrev S65536x64 : Shape := ⟨2, ![65536, 64]⟩

abbrev nBuf : Space → Nat
  | .hbm => 30
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i1⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S64, .i32⟩
  | .hbm, ⟨9, _⟩ => ⟨S64x1, .i32⟩
  | .hbm, ⟨10, _⟩ => ⟨S65536x64, .f32⟩
  | .hbm, ⟨11, _⟩ => ⟨S65536x64, .i32⟩
  | .hbm, ⟨12, _⟩ => ⟨S65536x64, .f32⟩
  | .hbm, ⟨13, _⟩ => ⟨S65536x64, .i32⟩
  | .hbm, ⟨14, _⟩ => ⟨S65536x64, .i32⟩
  | .hbm, ⟨15, _⟩ => ⟨S65536x64, .i32⟩
  | .hbm, ⟨16, _⟩ => ⟨S65536x64, .i32⟩
  | .hbm, ⟨17, _⟩ => ⟨S65536x64, .f32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S65536x128, .f32⟩
  | .hbm, ⟨27, _⟩ => ⟨S_, .f32⟩
  | .hbm, ⟨28, _⟩ => ⟨S65536x128, .f32⟩
  | .hbm, ⟨29, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1_0 : Ref sig .tc := ⟨.hbm, 12, rfl⟩
abbrev main_v7 : Ref sig .tc := ⟨.hbm, 13, rfl⟩
abbrev main_call1_v0 : Ref sig .tc := ⟨.hbm, 14, rfl⟩
abbrev main_call1_v1_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Proof.Rank.lean ====
/- The rank of an entry among the 64 entries of a row, and its count by eight groups of eight. Pure mathematics: no
   program is named here. -/
module

public import Mathlib.Data.EReal.Basic
public import Mathlib.Data.Fintype.BigOperators
public import Mathlib.Algebra.BigOperators.Fin
public import Mathlib.Logic.Equiv.Fin.Basic
public import Mathlib.Algebra.Group.Fin.Basic
public import Mathlib.Tactic.Linarith

@[expose] public section

noncomputable section

namespace Cert.Rank

open Finset

/-- One where the proposition holds and zero where it does not. -/
def ind (p : Prop) [Decidable p] : ℝ := if p then 1 else 0

/-- Entry `i` comes before entry `j`: it is smaller, or it is equal and stands further left. -/
def Before (x : Fin 64 → EReal) (i j : Fin 64) : Prop := x i < x j ∨ x i = x j ∧ i < j

instance (x : Fin 64 → EReal) (i j : Fin 64) : Decidable (Before x i j) := by unfold Before; infer_instance

/-- The number of entries before entry `j`. -/
def rank (x : Fin 64 → EReal) (j : Fin 64) : ℕ := (univ.filter fun i => Before x i j).card

/-- No entry comes before itself. -/
theorem before_irrefl (x : Fin 64 → EReal) (i : Fin 64) : ¬ Before x i i := by simp [Before]

/-- `Before` is transitive. -/
theorem before_trans {x : Fin 64 → EReal} {i j k : Fin 64} (h : Before x i j) (h' : Before x j k) : Before x i k := by
  unfold Before at *
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- Of two different entries one comes before the other. -/
theorem before_total (x : Fin 64 → EReal) {i j : Fin 64} (h : i ≠ j) : Before x i j ∨ Before x j i := by
  unfold Before
  rcases lt_trichotomy (x i) (x j) with hx | hx | hx
  · exact .inl (.inl hx)
  · rcases lt_or_gt_of_ne h with hi | hi
    · exact .inl (.inr ⟨hx, hi⟩)
    · exact .inr (.inr ⟨hx.symm, hi⟩)
  · exact .inr (.inl hx)

/-- An entry before another has the smaller rank. -/
theorem rank_lt_of_before {x : Fin 64 → EReal} {i j : Fin 64} (h : Before x i j) : rank x i < rank x j := by
  refine card_lt_card ((ssubset_iff_of_subset ?_).mpr ⟨i, ?_, ?_⟩)
  · intro k hk
    simp only [mem_filter, mem_univ, true_and] at hk ⊢
    exact before_trans hk h
  · simpa using h
  · simpa using before_irrefl x i

/-- The ranks order the entries as `Before` does. -/
theorem rank_lt_iff (x : Fin 64 → EReal) (i j : Fin 64) : rank x i < rank x j ↔ Before x i j := by
  refine ⟨fun h => ?_, rank_lt_of_before⟩
  have hne : i ≠ j := fun e => by simp [e] at h
  rcases before_total x hne with h' | h'
  · exact h'
  · exact absurd (rank_lt_of_before h') (by omega)

/-- A rank is below 64. -/
theorem rank_lt (x : Fin 64 → EReal) (j : Fin 64) : rank x j < 64 := by
  have h : rank x j < (univ : Finset (Fin 64)).card :=
    card_lt_card ((ssubset_iff_of_subset (filter_subset _ _)).mpr ⟨j, mem_univ j, by simpa using before_irrefl x j⟩)
  simpa using h

/-- No two entries have the same rank. -/
theorem rank_injective (x : Fin 64 → EReal) : Function.Injective (rank x) := fun i j h => by
  by_contra hne
  rcases before_total x hne with h' | h' <;> have := rank_lt_of_before h' <;> omega

/-- The ranks of a row are a permutation of its 64 places. -/
def rankPerm (x : Fin 64 → EReal) : Fin 64 ≃ Fin 64 :=
  Equiv.ofBijective (fun j => ⟨rank x j, rank_lt x j⟩)
    (Finite.injective_iff_bijective.mp fun _ _ h => rank_injective x (Fin.mk.inj_iff.mp h))

@[simp] theorem rankPerm_val (x : Fin 64 → EReal) (j : Fin 64) : (rankPerm x j).val = rank x j := rfl

/-! ## The count by groups -/

/-- Place `s` of group `g`. -/
def slot (g s : Fin 8) : Fin 64 := ⟨8 * g.val + s.val, by omega⟩

/-- The rank of an entry is the sum, over the groups, of the number of the group's entries before it. -/
theorem rank_eq_sum (x : Fin 64 → EReal) (j : Fin 64) :
    (rank x j : ℝ) = ∑ a : Fin 8, ∑ t : Fin 8, ind (Before x (slot a t) j) := by
  unfold rank ind
  rw [← Fintype.sum_prod_type' (f := fun a t => if Before x (slot a t) j then (1 : ℝ) else 0), ← Finset.sum_boole]
  refine (Fintype.sum_equiv (finProdFinEquiv : Fin 8 × Fin 8 ≃ Fin (8 * 8)) _ _ fun p => ?_).symm
  have e : (finProdFinEquiv p : Fin 64) = slot p.1 p.2 := Fin.ext (by simp [slot, finProdFinEquiv]; omega)
  rw [e]

/-- A sum over a group, started at place `s` and taken around the circle. -/
theorem sum_around (f : Fin 8 → ℝ) (s : Fin 8) :
    ∑ t, f t = f s + f (s + 1) + f (s + 2) + f (s + 3) + f (s + 4) + f (s + 5) + f (s + 6) + f (s + 7) := by
  rw [← Equiv.sum_comp (Equiv.addLeft s) f, Fin.sum_univ_eight]
  simp

/-- An entry of an earlier group comes before one of a later group when it is not greater. -/
theorem before_of_lt (x : Fin 64 → EReal) {a g : Fin 8} (h : a < g) (t s : Fin 8) :
    ind (Before x (slot a t) (slot g s)) = ind (x (slot a t) ≤ x (slot g s)) := by
  have hs : slot a t < slot g s := by simp only [slot, Fin.lt_def] at h ⊢; omega
  unfold ind Before
  simp only [hs, and_true, ← le_iff_lt_or_eq]

/-- An entry of a later group comes before one of an earlier group when the latter is not at most the former. -/
theorem before_of_gt (x : Fin 64 → EReal) {a g : Fin 8} (h : g < a) (t s : Fin 8) :
    ind (Before x (slot a t) (slot g s)) = 1 - ind (x (slot g s) ≤ x (slot a t)) := by
  have hs : ¬ slot a t < slot g s := by simp only [slot, Fin.lt_def] at h ⊢; omega
  unfold ind Before
  by_cases hx : x (slot a t) < x (slot g s)
  · simp [hs, hx, not_le.mpr hx]
  · simp [hs, hx, not_lt.mp hx]

/-- The comparison of two entries of one group: `r` places on the circle apart, `p` saying which stands further left. -/
theorem before_same (x : Fin 64 → EReal) (g t s : Fin 8) (p : Prop) [Decidable p] (hp : p ↔ t < s) :
    ind (x (slot g t) < x (slot g s)) + ind (x (slot g t) = x (slot g s)) * ind p
      = ind (Before x (slot g t) (slot g s)) := by
  have hs : slot g t < slot g s ↔ p := by rw [hp]; simp only [slot, Fin.lt_def]; omega
  unfold ind Before
  simp only [hs]
  by_cases h1 : x (slot g t) < x (slot g s)
  · simp [h1, h1.ne]
  · by_cases h2 : x (slot g t) = x (slot g s) <;> by_cases h3 : p <;> simp [h1, h2, h3]

/-- Of two different entries exactly one comes before the other. -/
theorem before_add (x : Fin 64 → EReal) {i j : Fin 64} (h : i ≠ j) : ind (Before x i j) + ind (Before x j i) = 1 := by
  unfold ind
  by_cases h1 : Before x i j
  · have h2 : ¬ Before x j i := fun h2 => before_irrefl x i (before_trans h1 h2)
    simp [h1, h2]
  · have h2 := (before_total x h).resolve_left h1
    simp [h1, h2]

/-- What a group contributes to the rank of its own place `s`: the four places behind it on the circle are counted by
    their comparisons with it, the three ahead of it by the complement of its comparisons with them. -/
theorem own_group (x : Fin 64 → EReal) (g s : Fin 8) (W : Fin 8 → Fin 8 → ℝ)
    (hW : ∀ t u : Fin 8, W t u = ind (Before x (slot g t) (slot g u))) :
    W (s + 7) s - W s (s + 1) + W (s + 6) s - W s (s + 2) + W (s + 5) s - W s (s + 3) + W (s + 4) s + 3
      = ∑ t, ind (Before x (slot g t) (slot g s)) := by
  have hne : ∀ k : Fin 8, k ≠ 0 → slot g s ≠ slot g (s + k) := by
    intro k hk e
    have e' : s = s + k := Fin.ext (by have := congrArg Fin.val e; simp only [slot] at this; omega)
    exact hk (by simpa using e'.symm)
  have h0 : ind (Before x (slot g s) (slot g s)) = 0 := by simp [ind, before_irrefl]
  rw [sum_around _ s, h0]
  simp only [hW]
  linarith [before_add x (hne 1 (by decide)), before_add x (hne 2 (by decide)), before_add x (hne 3 (by decide))]

/-- `f` at the eight places of a group, from place `s` around the circle. -/
def around (f : Fin 8 → ℝ) (s : Fin 8) : ℝ :=
  f s + f (s + 1) + f (s + 2) + f (s + 3) + f (s + 4) + f (s + 5) + f (s + 6) + f (s + 7)

/-- What group `a` contributes to the rank of place `s` of group `g`. -/
def share (x : Fin 64 → EReal) (g s a : Fin 8) : ℝ :=
  if a < g then around (fun t => ind (x (slot a t) ≤ x (slot g s))) s
  else if g < a then 8 - around (fun t => ind (x (slot g s) ≤ x (slot a t))) s
  else ind (Before x (slot g (s + 7)) (slot g s)) - ind (Before x (slot g s) (slot g (s + 1)))
    + ind (Before x (slot g (s + 6)) (slot g s)) - ind (Before x (slot g s) (slot g (s + 2)))
    + ind (Before x (slot g (s + 5)) (slot g s)) - ind (Before x (slot g s) (slot g (s + 3)))
    + ind (Before x (slot g (s + 4)) (slot g s)) + 3

/-- The rank of a place is the sum of the eight groups' shares. -/
theorem rank_eq_shares (x : Fin 64 → EReal) (g s : Fin 8) : (rank x (slot g s) : ℝ) = ∑ a, share x g s a := by
  rw [rank_eq_sum]
  refine Finset.sum_congr rfl fun a _ => ?_
  unfold share
  rcases lt_trichotomy a g with h | h | h
  · rw [if_pos h, Finset.sum_congr rfl fun t _ => before_of_lt x h t s, sum_around _ s]
    rfl
  · subst h
    rw [if_neg (lt_irrefl a), if_neg (lt_irrefl a)]
    exact (own_group x a s (fun t u => ind (Before x (slot a t) (slot a u))) fun _ _ => rfl).symm
  · rw [if_neg h.not_gt, if_pos h, Finset.sum_congr rfl fun t _ => before_of_gt x h t s, Finset.sum_sub_distrib,
      sum_around (fun t => ind (x (slot g s) ≤ x (slot a t))) s]
    simp [around]

/-! The masks of the comparisons inside a group: place `s` is at least `r` exactly when the place `r` behind it on the
circle stands further left, and likewise for the place `r` ahead. -/

/-- One place further left on the circle without passing its start: what the kernel's mask asks. -/
theorem behind1 (s : Fin 8) : (1 : ℤ) ≤ (s.val : ℤ) ↔ s + 7 < s := by revert s; decide
/-- Two places further left on the circle without passing its start: what the kernel's mask asks. -/
theorem behind2 (s : Fin 8) : (2 : ℤ) ≤ (s.val : ℤ) ↔ s + 6 < s := by revert s; decide
/-- Three places further left on the circle without passing its start: what the kernel's mask asks. -/
theorem behind3 (s : Fin 8) : (3 : ℤ) ≤ (s.val : ℤ) ↔ s + 5 < s := by revert s; decide
/-- Four places further left on the circle without passing its start: what the kernel's mask asks. -/
theorem behind4 (s : Fin 8) : (4 : ℤ) ≤ (s.val : ℤ) ↔ s + 4 < s := by revert s; decide
/-- One place further right on the circle without passing its end. -/
theorem ahead1 (s : Fin 8) : (1 : ℤ) ≤ ((s + 1).val : ℤ) ↔ s < s + 1 := by revert s; decide
/-- Two places further right on the circle without passing its end. -/
theorem ahead2 (s : Fin 8) : (2 : ℤ) ≤ ((s + 2).val : ℤ) ↔ s < s + 2 := by revert s; decide
/-- Three places further right on the circle without passing its end. -/
theorem ahead3 (s : Fin 8) : (3 : ℤ) ≤ ((s + 3).val : ℤ) ↔ s < s + 3 := by revert s; decide

end Cert.Rank
-- ==== Proof.Reads.lean ====
/- Reading the kernel's vector operations at an element: a rotation, a comparison turned into ones and zeros, a mask of
   sublanes, a slice of the transposed features. -/
module

public import proofs.«01_k».proof.Proof.Gen.KernelIdeal.Frame
public import Idealize.ShloMosaic.Lib.Pointwise
public import proofs.«01_k».proof.Proof.Rank

@[expose] public section

set_option maxRecDepth 16384

noncomputable section

namespace Cert.KernelIdeal.Reads

open Idealize.ShloMosaic Idealize.ShloMosaic.Pointwise Cert.KernelIdeal Cert.KernelIdeal.Gen Cert.Rank

variable (u v w : FVec Ideal S8x8192 .f32) (s : Fin 8) (l : Fin 8192)

/-- A rotation of the sublanes by `n`: sublane `s` gets what the sublane `8 - n` places on held. -/
theorem roll_at (n : BitVec 32) (h : S8x8192.Rotates 0 none) :
    dynamicRotate 0 n none v h (ix2 s l) = v (ix2 (s + Fin.ofNat 8 (8 - n.toNat % 8)) l) := by
  pointwise
  congr 2
  apply Fin.ext
  simp only [Fin.add_def, Fin.ofNat]
  omega

/-- The comparison `u ≤ v` as ones and zeros. -/
theorem le_at : select (cmpf .ole u v) (broadcast S8x8192 (Scalar.ofBits .f32 0x3F800000#32 : Ideal .f32))
      (broadcast S8x8192 (Scalar.ofBits .f32 0x00000000#32 : Ideal .f32)) (ix2 s l)
    = ((ind (u (ix2 s l) ≤ v (ix2 s l)) : ℝ) : EReal) := by
  pointwise
  unfold ind
  split <;> simp

/-- The comparison `u < v` as ones and zeros. -/
theorem lt_at : select (cmpf .olt u v) (broadcast S8x8192 (Scalar.ofBits .f32 0x3F800000#32 : Ideal .f32))
      (broadcast S8x8192 (Scalar.ofBits .f32 0x00000000#32 : Ideal .f32)) (ix2 s l)
    = ((ind (u (ix2 s l) < v (ix2 s l)) : ℝ) : EReal) := by
  pointwise
  unfold ind
  split <;> simp

/-- A vector `w` kept where `u = v` and zero elsewhere. -/
theorem eq_at : select (cmpf .oeq u v) w (broadcast S8x8192 (Scalar.ofBits .f32 0x00000000#32 : Ideal .f32)) (ix2 s l)
    = ((ind (u (ix2 s l) = v (ix2 s l)) : ℝ) : EReal) * w (ix2 s l) := by
  pointwise
  unfold ind
  split <;> simp

/-- The mask of the sublanes from `n` on. -/
theorem mask_at (n : BitVec 32) (h : S8x8192.Iotas .tc 32 [0]) :
    select (cmpi .sge (iota .tc S8x8192 32 [0] h) (broadcast S8x8192 n))
      (broadcast S8x8192 (Scalar.ofBits .f32 0x3F800000#32 : Ideal .f32))
      (broadcast S8x8192 (Scalar.ofBits .f32 0x00000000#32 : Ideal .f32)) (ix2 s l)
    = ((ind (n.toInt ≤ (s.val : ℤ)) : ℝ) : EReal) := by
  have hs : (BitVec.ofNat 32 s.val).toInt = (s.val : ℤ) := by
    revert s
    decide
  pointwise
  unfold ind IntOp.cmpi Scalar.select
  simp only [BitVec.sle, hs]
  by_cases h' : n.toInt ≤ (s.val : ℤ) <;> simp [h']

/-- A sum at an element. -/
theorem add_at : addf u v (ix2 s l) = (u (ix2 s l) : EReal) + v (ix2 s l) := by
  pointwise

/-- A difference at an element. -/
theorem sub_at : subf u v (ix2 s l) = (u (ix2 s l) : EReal) - v (ix2 s l) := by
  pointwise

/-- A constant at an element. -/
theorem const_at (b : BitVec 32) : broadcast S8x8192 (Scalar.ofBits .f32 b : Ideal .f32) (ix2 s l) = Ideal.ofBits .f32 b := rfl

/-- Two steps along the sublanes are one step. -/
theorem add_assoc' (a b : Fin 8) : s + a + b = s + (a + b) := add_assoc s a b

/-- The 64 ranked features of row `l` of a block. -/
def row (x0 : Vec Ideal S8192x128 .f32) (l : Fin 8192) : Fin 64 → EReal := fun k => x0 (ix2 l ⟨k.val, by omega⟩)

/-- The rows `o` to `o + 7` of the transposed features are one group of eight. -/
theorem slice_at (x0 : Vec Ideal S8192x128 .f32) (o : ℕ) (g : Fin 8) (ho : o = 8 * g.val)
    (h1 : S8192x128.Slices ![0, 0] S8192x64) (h2 : S8192x64.Transposes [1, 0] S64x8192) (h3 : S64x8192.Slices ![o, 0] S8x8192) :
    extractStridedSlice S8x8192 ![o, 0] (transpose S64x8192 [1, 0]
      (extractStridedSlice S8192x64 ![0, 0] x0 h1) h2) h3 (ix2 s l) = row x0 l (slot g s) := by
  subst ho
  unfold row slot
  pointwise

/-- The load of the whole block. -/
theorem ld_whole (x0 : Vec Ideal S8192x128 .f32) : View.ld x0 r0_0 = x0 := by
  funext j
  unfold r0_0
  idx_vars j
  pointwise

end Cert.KernelIdeal.Reads
-- ==== Proof.Words.lean ====
/- The float words the two programs write down, as real numbers. -/
module

public import Idealize.ShloMosaic.PureOps.Ideal

@[expose] public section

namespace Cert.Words

open Idealize.ShloMosaic

/-- The word of 0. -/
theorem w0 : Ideal.ofBits .f32 0x00000000#32 = ((0 : ℝ) : EReal) := by
  simp [Ideal.ofBits, Ideal.ieee, -EReal.coe_mul]
/-- The word of 3. -/
theorem w3 : Ideal.ofBits .f32 0x40400000#32 = ((3 : ℝ) : EReal) := by
  simp [Ideal.ofBits, Ideal.ieee, -EReal.coe_mul]; norm_num
/-- The word of 11. -/
theorem w11 : Ideal.ofBits .f32 0x41300000#32 = ((11 : ℝ) : EReal) := by
  simp [Ideal.ofBits, Ideal.ieee, -EReal.coe_mul]; norm_num
/-- The word of 19. -/
theorem w19 : Ideal.ofBits .f32 0x41980000#32 = ((19 : ℝ) : EReal) := by
  simp [Ideal.ofBits, Ideal.ieee, -EReal.coe_mul]; norm_num
/-- The word of 27. -/
theorem w27 : Ideal.ofBits .f32 0x41D80000#32 = ((27 : ℝ) : EReal) := by
  simp [Ideal.ofBits, Ideal.ieee, -EReal.coe_mul]; norm_num
/-- The word of 35. -/
theorem w35 : Ideal.ofBits .f32 0x420C0000#32 = ((35 : ℝ) : EReal) := by
  simp [Ideal.ofBits, Ideal.ieee, -EReal.coe_mul]; norm_num
/-- The word of 43. -/
theorem w43 : Ideal.ofBits .f32 0x422C0000#32 = ((43 : ℝ) : EReal) := by
  simp [Ideal.ofBits, Ideal.ieee, -EReal.coe_mul]; norm_num
/-- The word of 51. -/
theorem w51 : Ideal.ofBits .f32 0x424C0000#32 = ((51 : ℝ) : EReal) := by
  simp [Ideal.ofBits, Ideal.ieee, -EReal.coe_mul]; norm_num
/-- The word of 59. -/
theorem w59 : Ideal.ofBits .f32 0x426C0000#32 = ((59 : ℝ) : EReal) := by
  simp [Ideal.ofBits, Ideal.ieee, -EReal.coe_mul]; norm_num
/-- The word of 64. -/
theorem w64 : Ideal.ofBits .f32 0x42800000#32 = ((64 : ℝ) : EReal) := by
  simp [Ideal.ofBits, Ideal.ieee, -EReal.coe_mul]; norm_num
/-- The reciprocal of 64. -/
theorem inv64 : Ideal.ofBits .f32 0x3C800000#32 = ((1 / 64 : ℝ) : EReal) := by
  simp [Ideal.ofBits, Ideal.ieee, -EReal.coe_mul]; norm_num

end Cert.Words
-- ==== Proof.Block.lean ====
/- What the kernel computes from one block of 8192 rows: the ranks of the first 64 features over 64, and the other 64
   features over 64. -/
module

public import proofs.«01_k».proof.Proof.Reads
public import proofs.«01_k».proof.Proof.Words
public import Idealize.ShloMosaic.Lib.Pipeline.ValueKit

@[expose] public section

set_option maxRecDepth 65536

noncomputable section

namespace Cert.KernelIdeal.Block

open Idealize.ShloMosaic Idealize.ShloMosaic.Pointwise Cert.KernelIdeal Cert.KernelIdeal.Gen Cert.KernelIdeal.Reads
  Cert.Rank Cert.Words

/-- The stored block at a ranked feature is what the store of the ranks holds there. -/
theorem left_at (p q : FVec Ideal S8192x64 .f32) (l : Fin 8192) (k : Fin 64) :
    View.canon (Val := Elt Ideal) (e := .f32) (s := S8192x128) [⟨r0_2, p⟩, ⟨r0_1, q⟩] (ix2 l ⟨k.val, by omega⟩) = q (ix2 l k) := by
  canon_tiles x h
  · have e : k.val = 64 + (x 1).val := h1
    omega
  · congr 1
    idx_vars x
    have e0 : l = x0 := Fin.ext h0
    have e1 : k = x1 := Fin.ext h1
    rw [e0, e1]

/-- The stored block at an unranked feature is what the store of the others holds there. -/
theorem right_at (p q : FVec Ideal S8192x64 .f32) (l : Fin 8192) (k : Fin 64) :
    View.canon (Val := Elt Ideal) (e := .f32) (s := S8192x128) [⟨r0_2, p⟩, ⟨r0_1, q⟩] (ix2 l ⟨64 + k.val, by omega⟩) = p (ix2 l k) := by
  canon_tiles x h
  · congr 1
    idx_vars x
    have e0 : l = x0 := Fin.ext h0
    have e1 : k = x1 := Fin.ext (Nat.add_left_cancel h1)
    rw [e0, e1]
  · have e : 64 + k.val = (x 1).val := h1
    omega

/-- The store of the ranks: the eight accumulators one below another, transposed, over 64. -/
theorem pay1_at (A0 A1 A2 A3 A4 A5 A6 A7 A8 : FVec Ideal S8x8192 .f32) (l : Fin 8192) (g s : Fin 8) :
    k0_pay1 A0 A1 A2 A3 A4 A5 A6 A7 A8 (ix2 l (slot g s))
      = (match g with | 0 => A1 | 1 => A2 | 2 => A3 | 3 => A4 | 4 => A5 | 5 => A6 | 6 => A7 | 7 => addf A0 A8 : FVec Ideal S8x8192 .f32) (ix2 s l)
        * Ideal.ofBits .f32 0x3C800000#32 := by
  have hs : ∀ (k : ℕ) (h : k < 8), k = s.val → (⟨k, h⟩ : Fin 8) = s := fun k h e => Fin.ext e
  unfold k0_pay1 slot
  fin_cases g <;> pointwise <;> congr 1 <;>
    (repeat first | rw [dif_neg (by omega)] | rw [dif_pos (by omega)]) <;> rw [hs _ _ (by omega)]

set_option maxHeartbeats 4000000 in
/-- The block at a ranked feature, for all eight groups at once: its rank in its row, over 64. Each group's share of the
    rank is what the kernel adds up for it, with the constant the kernel starts the group from. -/
theorem ranked_at (x0 : Vec Ideal S8192x128 .f32) (l : Fin 8192) (g s : Fin 8) :
    out0_1 x0 (ix2 l ⟨(slot g s).val, by omega⟩) = ((rank (row x0 l) (slot g s) : ℝ) : EReal) * ((1 / 64 : ℝ) : EReal) := by
  unfold_out out0_1
  refine (left_at _ _ l (slot g s)).trans ?_
  rw [pay1_at, inv64]
  congr 1
  rw [rank_eq_shares, Fin.sum_univ_eight]
  unfold_payloads
  fin_cases g
  all_goals
    simp only [↓roll_at, ↓le_at, ↓lt_at, ↓eq_at, ↓mask_at, ↓add_at, ↓sub_at, ↓const_at, ↓ld_whole, ↓slice_at _ _ x0 0 0 rfl, ↓slice_at _ _ x0 8 1 rfl,
      ↓slice_at _ _ x0 16 2 rfl, ↓slice_at _ _ x0 24 3 rfl, ↓slice_at _ _ x0 32 4 rfl, ↓slice_at _ _ x0 40 5 rfl, ↓slice_at _ _ x0 48 6 rfl,
      ↓slice_at _ _ x0 56 7 rfl, ← EReal.coe_mul, ← EReal.coe_add, ← EReal.coe_sub, w0, w3, w11, w19, w27, w35, w43, w51, w59,
      add_assoc' s, BitVec.reduceToNat, BitVec.reduceToInt, Nat.reduceMod, Nat.reduceSub, Fin.reduceOfNat, Fin.reduceAdd, Fin.isValue, add_zero,
      Fin.zero_eta, Fin.mk_one, Fin.reduceFinMk, EReal.coe_eq_coe_iff, share, around, Fin.reduceLT, if_true, if_false, ↓reduceIte,
      before_same _ _ (s + 7) s _ (behind1 s), before_same _ _ (s + 6) s _ (behind2 s), before_same _ _ (s + 5) s _ (behind3 s),
      before_same _ _ (s + 4) s _ (behind4 s), before_same _ _ s (s + 1) _ (ahead1 s), before_same _ _ s (s + 2) _ (ahead2 s),
      before_same _ _ s (s + 3) _ (ahead3 s)]
  all_goals ring

/-- The block at an unranked feature: the feature over 64. -/
theorem kept_at (x0 : Vec Ideal S8192x128 .f32) (l : Fin 8192) (k : Fin 64) :
    out0_1 x0 (ix2 l ⟨64 + k.val, by omega⟩) = (x0 (ix2 l ⟨64 + k.val, by omega⟩) : EReal) * ((1 / 64 : ℝ) : EReal) := by
  unfold out0_1
  refine (right_at _ _ l k).trans ?_
  rw [ld_whole]
  unfold k0_pay2
  pointwise [inv64]

end Cert.KernelIdeal.Block
-- ==== Proof.RefMoves.lean ====
/- The two moves of columns the reference makes, at the index words 0, 1, …, 63: taking the first 64 columns out of
   the array, and putting 64 columns back over its first 64. -/
module

public import proofs.«01_k».proof.Proof.Gen.ReferenceIdeal.Read
public import Idealize.ShloMosaic.Lib.Routing.OpsSet
public import Idealize.ShloMosaic.Lib.Pointwise

@[expose] public section

noncomputable section

namespace Cert.ReferenceIdeal.Moves

open Cert.ReferenceIdeal Cert.ReferenceIdeal.Gen Cert.ReferenceIdeal.Read Idealize.ShloMosaic Idealize.SL.Sem

/-- The integer argument holds its own positions: word `j` is `j`. -/
def InOrder (x1 : IVec S64 32) : Prop := ∀ j : Fin 64, x1 (ix1 j) = BitVec.ofNat 32 j.val

/-- A word below 64 read signed is the number itself. -/
theorem toInt_small (n : ℕ) (h : n < 64) : (BitVec.ofNat 32 n).toInt = (n : ℤ) :=
  StableHlo.Predicate.toInt_ofNat_small _ (by omega)

/-- A word below 64 is not negative, so the reference's wrapping of negative positions leaves it. -/
theorem wrap_small (n : ℕ) (h : n < 64) (a : BitVec 32) :
    Scalar.select (IntOp.cmpi .slt (BitVec.ofNat 32 n) 0#32) a (BitVec.ofNat 32 n) = BitVec.ofNat 32 n :=
  Routing.wrap_of_lt _ _ (by rw [BitVec.toNat_ofNat, Nat.mod_eq_of_lt (by omega)]; omega)

/-- The positions the reference takes columns from: word `j` is `j`. -/
theorem take_words (x1 : IVec S64 32) (h : InOrder x1) (i : S64x1.Idx) :
    val_main_v5 (F := Ideal) x1 i = BitVec.ofNat 32 (i 0).val := by
  have e : x1 (idx_main_v5 i) = BitVec.ofNat 32 (i 0).val := by
    refine Eq.trans (congrArg x1 ?_) (h (i 0))
    funext a
    match a with
    | ⟨0, _⟩ => rfl
  rw [val_main_v5_apply, val_main_v4_apply, val_main_v1_apply, val_main_v0_apply, val_main_c_apply, e]
  exact wrap_small _ (i 0).isLt _

/-- The positions the reference puts columns at: word `j` is `j`. -/
theorem put_words (x1 : IVec S64 32) (h : InOrder x1) (i : S64x1.Idx) :
    val_main_v15 (F := Ideal) x1 i = BitVec.ofNat 32 (i 0).val := by
  have e : x1 (idx_main_v15 i) = BitVec.ofNat 32 (i 0).val := by
    refine Eq.trans (congrArg x1 ?_) (h (i 0))
    funext a
    match a with
    | ⟨0, _⟩ => rfl
  rw [val_main_v15_apply, val_main_v14_apply, val_main_v11_apply, val_main_v10_apply, val_main_c_1_apply, e]
  exact wrap_small _ (i 0).isLt _

/-- Taking columns by the words 0, 1, …, 63 gives the first 64 columns. -/
theorem take_cols {α : Type} (x : S65536x128.Idx → α) (idx : IVec S64x1 32)
    (h : ∀ i, idx i = BitVec.ofNat 32 (i 0).val) (r : Fin 65536) (j : Fin 64) :
    Host.gather gather_S65536x128_S64x1_S65536x64_0_1_n_n_1_1_655361 x idx (ix2 r j)
      = x (ix2 r ⟨j.val, by omega⟩) := by
  unfold Host.gather
  refine congrArg x (funext fun a => Fin.ext ?_)
  match a with
  | ⟨0, _⟩ =>
    show GatherDims.start _ _ idx 0 + GatherDims.batchCoord _ _ 0 + GatherDims.offCoord _ _ 0 = r.val
    rw [GatherDims.batchCoord_eq_zero _ _ _ List.not_mem_nil]
    unfold GatherDims.start
    rw [dif_neg (by decide)]
    unfold GatherDims.offCoord
    rw [dif_pos (by decide)]
    show 0 + 0 + r.val = r.val
    omega
  | ⟨1, _⟩ =>
    show GatherDims.start _ _ idx 1 + GatherDims.batchCoord _ _ 1 + GatherDims.offCoord _ _ 1 = j.val
    rw [GatherDims.batchCoord_eq_zero _ _ _ List.not_mem_nil, GatherDims.offCoord_eq_zero _ _ _ (by decide)]
    unfold GatherDims.start
    rw [dif_pos (by decide), h]
    show min (BitVec.ofNat 32 j.val).toInt.toNat (128 - 1) + 0 + 0 = j.val
    rw [toInt_small _ j.isLt]
    omega

/-- Where an update lands when the words are 0, 1, …, 63: in its own row and column. -/
theorem lands (idx : IVec S64x1 32) (h : ∀ i, idx i = BitVec.ofNat 32 (i 0).val) (r r' : Fin 65536) (j : Fin 64)
    (c : Fin 128) :
    scatter_S65536x128_S64x1_S65536x64_0_1_1_1.resultIdx? (ix2 r' j) idx = some (ix2 r c)
      ↔ r' = r ∧ j.val = c.val := by
  have s0 : ScatterDims.start scatter_S65536x128_S64x1_S65536x64_0_1_1_1 (ix2 r' j) idx 0 = 0 := by
    unfold ScatterDims.start
    rw [dif_neg (by decide)]
  have s1 : ScatterDims.start scatter_S65536x128_S64x1_S65536x64_0_1_1_1 (ix2 r' j) idx 1 = (j.val : ℤ) := by
    unfold ScatterDims.start
    rw [dif_pos (by decide), h]
    exact toInt_small _ j.isLt
  have w0 : ScatterDims.window scatter_S65536x128_S64x1_S65536x64_0_1_1_1 (ix2 r' j) 0 = r'.val := by
    unfold ScatterDims.window
    rw [dif_pos (by decide)]
    rfl
  have w1 : ScatterDims.window scatter_S65536x128_S64x1_S65536x64_0_1_1_1 (ix2 r' j) 1 = 0 := by
    unfold ScatterDims.window
    rw [dif_neg (by decide)]
  refine (Routing.resultIdx?_ix2 scatter_S65536x128_S64x1_S65536x64_0_1_1_1 (ix2 r' j) idx r c).trans ?_
  erw [s0, s1, w0, w1]
  rw [Fin.ext_iff]
  omega

/-- Putting 64 columns at the words 0, 1, …, 63 fills the first 64 columns with them. -/
theorem put_cols_first {α : Type} (x : S65536x128.Idx → α) (idx : IVec S64x1 32)
    (h : ∀ i, idx i = BitVec.ofNat 32 (i 0).val) (upd : S65536x64.Idx → α) (r : Fin 65536) (j : Fin 64) :
    Host.scatter scatter_S65536x128_S64x1_S65536x64_0_1_1_1 (fun _ b => b) x idx upd (ix2 r ⟨j.val, by omega⟩)
      = upd (ix2 r j) := by
  refine Routing.scatter_set_hit _ x idx upd _ _ (fun k hk => ?_) (ix2 r j) ((lands idx h r r j _).mpr ⟨rfl, rfl⟩)
  idx_vars k
  obtain ⟨e0, e1⟩ := (lands idx h r k0 k1 _).mp hk
  rw [e0, Fin.ext (show k1.val = j.val from e1)]

/-- It leaves the other columns. -/
theorem put_cols_rest {α : Type} (x : S65536x128.Idx → α) (idx : IVec S64x1 32)
    (h : ∀ i, idx i = BitVec.ofNat 32 (i 0).val) (upd : S65536x64.Idx → α) (r : Fin 65536) (c : Fin 128)
    (hc : 64 ≤ c.val) :
    Host.scatter scatter_S65536x128_S64x1_S65536x64_0_1_1_1 (fun _ b => b) x idx upd (ix2 r c) = x (ix2 r c) := by
  refine Routing.scatter_set_miss _ x idx upd _ fun k hk => ?_
  idx_vars k
  have := ((lands idx h r k0 k1 c).mp hk).2
  omega

end Cert.ReferenceIdeal.Moves

end
-- ==== Proof.SortRank.lean ====
/- Sorting the 64 places of a row by their entries, and sorting the places of that order again: what the stable sort of
   a fiber gives at the comparisons the reference makes. -/
module

public import Idealize.ShloMosaic.Lib.Routing.SortLink
public import Idealize.ShloMosaic.Lib.SortFacts
public import proofs.«01_k».proof.Proof.Rank

@[expose] public section

noncomputable section

namespace Cert.SortRank

open Idealize.ShloMosaic Cert.Rank

/-- On an increasing list the stable sort only asks whether a later element comes before an earlier one, so two
    relations that answer those questions alike sort it alike. -/
theorem stableSort_increasing {n : ℕ} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ?_)
    exact (perm_stableSort R' l).mem_iff.mp hb

/-- So the sorted order of a fiber depends on those answers alone. -/
theorem sortedFrom_increasing {n : ℕ} (R R' : Fin n → Fin n → Bool) (h : ∀ a b, a < b → R b a = R' b a) :
    sortedFrom R = sortedFrom R' := by
  funext k
  unfold sortedFrom
  have e : sortPositions n R = sortPositions n R' := stableSort_increasing R R' h _ (List.pairwise_lt_finRange n)
  rw [List.get_of_eq e]
  rfl

/-- Sorting the places by a permutation of them reads that permutation backwards. -/
theorem sortedFrom_perm {n : ℕ} (p : Fin n ≃ Fin n) (k : Fin n) :
    sortedFrom (fun a b => decide ((p a).val < (p b).val)) k = p.symm k := by
  have hp : ((List.finRange n).map p.symm).Perm (List.finRange n) := by
    refine (List.perm_ext_iff_of_nodup ?_ (List.nodup_finRange n)).mpr fun a => ?_
    · exact (List.nodup_finRange n).map p.symm.injective
    · simp only [List.mem_map, List.mem_finRange, true_and, iff_true]
      exact ⟨p a, by simp⟩
  have hs : ((List.finRange n).map p.symm).Pairwise fun a b => (p a).val < (p b).val := by
    rw [List.pairwise_map]
    simpa using List.pairwise_lt_finRange n
  rw [Routing.sortedFrom_eq (fun a => (p a).val) (fun a b h => p.injective (Fin.ext h)) _ hp hs k (by simp)]
  simp

/-- The first sort, by the entries: the place that comes `k`-th is the one of rank `k`. -/
theorem sortedFrom_entries (x : Fin 64 → EReal) (R : Fin 64 → Fin 64 → Bool)
    (hR : ∀ a b, R a b = decide (x a < x b)) (k : Fin 64) : sortedFrom R k = (rankPerm x).symm k := by
  rw [sortedFrom_increasing R (fun a b => decide ((rankPerm x a).val < (rankPerm x b).val)) ?_, sortedFrom_perm]
  intro a b h
  rw [hR]
  refine decide_eq_decide.mpr ?_
  rw [rankPerm_val, rankPerm_val, rank_lt_iff]
  unfold Before
  have hn : ¬ b < a := h.asymm
  simp [hn]

/-- The second sort, by the places the first one gave: the `k`-th is the rank of place `k`. -/
theorem sortedFrom_places (x : Fin 64 → EReal) (R : Fin 64 → Fin 64 → Bool)
    (hR : ∀ a b, R a b = decide (((rankPerm x).symm a).val < ((rankPerm x).symm b).val)) (k : Fin 64) :
    sortedFrom R k = rankPerm x k := by
  have e : R = fun a b => decide (((rankPerm x).symm a).val < ((rankPerm x).symm b).val) := by
    funext a b
    exact hR a b
  rw [e, sortedFrom_perm]
  rfl

end Cert.SortRank
-- ==== Proof.RefOrder.lean ====
/- The two sorts of the reference: the places of a row in order of their entries, then the places of that order, which
   are the ranks. -/
module

public import proofs.«01_k».proof.Proof.RefMoves
public import proofs.«01_k».proof.Proof.SortRank
public import proofs.«01_k».proof.Proof.Words

@[expose] public section

noncomputable section

namespace Cert.ReferenceIdeal.Order

open Cert.ReferenceIdeal Cert.ReferenceIdeal.Gen Cert.ReferenceIdeal.Read Cert.ReferenceIdeal.Moves Idealize.ShloMosaic
  Idealize.SL.Sem Cert.Rank Cert.SortRank

/-- The first 64 entries of a row of the array. -/
def head (x0 : FVec Ideal S65536x128 .f32) (r : Fin 65536) : Fin 64 → EReal := fun j => x0 (ix2 r ⟨j.val, by omega⟩)

/-- A select between two equal values, and one whose word is 1 only where they agree, is the second value. -/
theorem select_agree {α : Type} (p : Prop) [Decidable p] (a b : α) (h : p → a = b) :
    Scalar.select (BitVec.ofBool (decide p)) a b = b := by
  by_cases hp : p
  · simp [Scalar.select, hp, h hp]
  · simp [Scalar.select, hp]

/-- The first sort's comparison asks whether the left entry is below the right one. -/
theorem before_entries (l r : Ideal .f32 × BitVec 32) :
    (comparator_f32_i32_d1 (F := Ideal) l r == 1#1) = decide ((l.1 : EReal) < r.1) := by
  have keep : ∀ y : EReal, Scalar.select (BitVec.ofBool (decide (y ≠ y))) (Ideal.ofBits .f32 0x7FC00000#32)
      (Scalar.select (BitVec.ofBool (decide (y = Ideal.ofBits .f32 0x00000000#32))) (Ideal.ofBits .f32 0x00000000#32) y)
      = y := fun y => by
    rw [select_agree (y ≠ y) _ _ fun h => absurd rfl h, select_agree _ _ _ fun h => h.symm]
  have e : comparator_f32_i32_d1 (F := Ideal) l r = BitVec.ofBool (decide ((l.1 : EReal) < r.1)) := by
    refine Eq.trans ?_ (congrArg₂ (fun u v : EReal => BitVec.ofBool (decide (u < v))) (keep l.1) (keep r.1))
    rfl
  rw [e]
  by_cases h : (l.1 : EReal) < r.1 <;> simp [h]

/-- The second sort's comparison of words below 64 asks whether the left number is below the right one. -/
theorem before_words (a b : ℕ) (ha : a < 64) (hb : b < 64) (u v : BitVec 32) :
    (comparator_i32_i32_d1 (BitVec.ofNat 32 a, u) (BitVec.ofNat 32 b, v) == 1#1) = decide (a < b) := by
  have e : comparator_i32_i32_d1 (BitVec.ofNat 32 a, u) (BitVec.ofNat 32 b, v)
      = BitVec.ofBool ((BitVec.ofNat 32 a).slt (BitVec.ofNat 32 b)) := rfl
  have e' : (BitVec.ofNat 32 a).slt (BitVec.ofNat 32 b) = decide (a < b) := by
    unfold BitVec.slt
    rw [toInt_small a ha, toInt_small b hb]
    simp
  rw [e, e']
  by_cases h : a < b <;> simp [h]

/-- The columns taken are the first 64. -/
theorem taken (x0 : FVec Ideal S65536x128 .f32) (x1 : IVec S64 32) (h : InOrder x1) (r : Fin 65536) (j : Fin 64) :
    val_main_v6 (F := Ideal) x0 x1 (ix2 r j) = head x0 r j :=
  take_cols x0 _ (take_words x1 h) r j

/-- Row `r` of an array at place `k` of its last axis. -/
theorem along_row {R C : ℕ} (r : Fin R) (j k : Fin C) :
    Shape.Idx.along (s := ⟨2, ![R, C]⟩) (ix2 r j) (1 : Fin 2) k = ix2 r k := by
  funext a
  match a with
  | ⟨0, _⟩ => exact Function.update_of_ne (fun h => absurd (congrArg Fin.val h) Nat.zero_ne_one) _ _
  | ⟨1, _⟩ => exact Function.update_self _ _ _

/-- A row sorted along with the positions 0, 1, … of its places: the positions end in the sorted order. -/
theorem sorted_positions {R C : ℕ} {α : Type} (cmp : α × BitVec 32 → α × BitVec 32 → BitVec 1)
    (x : (⟨2, ![R, C]⟩ : Shape).Idx → α) (r : Fin R) (k : Fin C) :
    (Host.sort2 ⟨2, ![R, C]⟩ 1 cmp x (iotaInDim ⟨2, ![R, C]⟩ 32 1)).2 (ix2 r k)
      = BitVec.ofNat 32 (sortedFrom (fun a b : Fin C =>
          cmp (x (ix2 r a), BitVec.ofNat 32 a.val) (x (ix2 r b), BitVec.ofNat 32 b.val) == 1#1) k).val := by
  have e : ∀ a : Fin C, iotaInDim (⟨2, ![R, C]⟩ : Shape) 32 1 (ix2 r a) = BitVec.ofNat 32 a.val := fun a => rfl
  have al : ∀ a : Fin C, Shape.Idx.along (s := ⟨2, ![R, C]⟩) (ix2 r k) (⟨1, Nat.one_lt_two⟩ : Fin 2) a = ix2 r a :=
    fun a => along_row r k a
  unfold Host.sort2
  rw [dif_pos (show 1 < (⟨2, ![R, C]⟩ : Shape).rank from Nat.one_lt_two)]
  dsimp only
  refine (congrArg _ (al _)).trans ((e _).trans ?_)
  refine congrArg (fun f : Fin C → Fin C → Bool => BitVec.ofNat 32 (sortedFrom f k).val) ?_
  funext a b
  refine congrArg₂ (fun u v => cmp u v == 1#1) ?_ ?_
  · exact congrArg₂ Prod.mk (congrArg x (al a)) ((congrArg _ (al a)).trans (e a))
  · exact congrArg₂ Prod.mk (congrArg x (al b)) ((congrArg _ (al b)).trans (e b))

/-- After the first sort the place `k` of a row holds the column whose rank is `k`. -/
theorem order_at (x0 : FVec Ideal S65536x128 .f32) (x1 : IVec S64 32) (h : InOrder x1) (r : Fin 65536) (k : Fin 64) :
    val_main_v7 (F := Ideal) x0 x1 (ix2 r k) = BitVec.ofNat 32 ((rankPerm (head x0 r)).symm k).val := by
  refine (sorted_positions (R := 65536) (C := 64) (comparator_f32_i32_d1 (F := Ideal)) (val_main_v6 (F := Ideal) x0 x1) r k).trans ?_
  rw [sortedFrom_entries (head x0 r)]
  intro a b
  rw [taken x0 x1 h r a, taken x0 x1 h r b, before_entries]

/-- After the second sort the place `j` of a row holds the rank of column `j`. -/
theorem rank_at (x0 : FVec Ideal S65536x128 .f32) (x1 : IVec S64 32) (h : InOrder x1) (r : Fin 65536) (j : Fin 64) :
    val_main_v8 (F := Ideal) x0 x1 (ix2 r j) = BitVec.ofNat 32 (rank (head x0 r) j) := by
  refine (sorted_positions (R := 65536) (C := 64) comparator_i32_i32_d1 (val_main_v7 (F := Ideal) x0 x1) r j).trans ?_
  rw [sortedFrom_places (head x0 r), rankPerm_val]
  intro a b
  rw [order_at x0 x1 h r a, order_at x0 x1 h r b, before_words _ _ (Fin.isLt _) (Fin.isLt _)]

end Cert.ReferenceIdeal.Order

end
-- ==== Proof.Goal.lean ====
/- The array both programs end with: the ranks of the first 64 entries of a row and the other entries as they are, all
   over 64. -/
module

public import proofs.«01_k».proof.Proof.RefOrder

@[expose] public section

noncomputable section

namespace Cert.Goal

open Cert.ReferenceIdeal Cert.ReferenceIdeal.Order Cert.Rank Idealize.ShloMosaic Idealize.SL.Sem

/-- Entry `(r, c)`: over 64, the rank of `c` in the head of row `r` when `c` is one of the first 64 columns, else the
    array's own entry. -/
def goalAt (x0 : FVec Ideal S65536x128 .f32) (r : Fin 65536) (c : Fin 128) : EReal :=
  if h : c.val < 64 then ((rank (head x0 r) ⟨c.val, h⟩ : ℝ) : EReal) * ((1 / 64 : ℝ) : EReal)
  else (x0 (ix2 r c) : EReal) * ((1 / 64 : ℝ) : EReal)

/-- The whole array of those entries. -/
def goal (x0 : FVec Ideal S65536x128 .f32) : FVec Ideal S65536x128 .f32 := fun i => goalAt x0 (i 0) (i 1)

end Cert.Goal

end
-- ==== Proof.ArrayValue.lean ====
/- The array the kernel ends with: its eight blocks of 8192 rows are those rows of the goal. -/
module

public import proofs.«01_k».proof.Proof.Gen.KernelIdeal.Value
public import Idealize.ShloMosaic.Lib.Pipeline.ValueKit
public import proofs.«01_k».proof.Proof.Block
public import proofs.«01_k».proof.Proof.Goal

@[expose] public section

noncomputable section

namespace Cert.KernelIdeal.ArrayValue

open Cert.KernelIdeal Cert.KernelIdeal.Gen Cert.KernelIdeal.Block Cert.KernelIdeal.Reads Cert.Rank Cert.Goal
  Idealize.ShloMosaic Idealize.ShloMosaic.TcCoe Idealize.SL.Sem

/-- Feature `k` is in the group `k / 8` at the place `k % 8`. -/
theorem slot_div_mod (k : Fin 64) : slot ⟨k.val / 8, by omega⟩ ⟨k.val % 8, by omega⟩ = k :=
  Fin.ext (Nat.div_add_mod k.val 8)

/-- A row of a block that is row `r` of the array: the block's value there is the goal's row `r`. -/
theorem block_row (b : Vec Ideal S8192x128 .f32) (x0 : FVec Ideal S65536x128 .f32) (l : Fin 8192) (r : Fin 65536)
    (h : ∀ k : Fin 128, b (ix2 l k) = x0 (ix2 r k)) (k : Fin 128) : out0_1 b (ix2 l k) = goalAt x0 r k := by
  have hrow : row b l = Cert.ReferenceIdeal.Order.head x0 r := funext fun j => h _
  unfold goalAt
  by_cases hk : k.val < 64
  · rw [dif_pos hk, ← hrow]
    have ranked : ∀ j : Fin 64, out0_1 b (ix2 l ⟨j.val, by omega⟩)
        = ((rank (row b l) j : ℝ) : EReal) * ((1 / 64 : ℝ) : EReal) := fun j => by
      obtain ⟨g, s, rfl⟩ : ∃ g s : Fin 8, slot g s = j := ⟨_, _, slot_div_mod j⟩
      exact ranked_at b l g s
    exact ranked ⟨k.val, hk⟩
  · rw [dif_neg hk, ← h k]
    have e := kept_at b l ⟨k.val - 64, by omega⟩
    have hk' : (⟨64 + (k.val - 64), by omega⟩ : Fin 128) = k := Fin.ext (by show 64 + (k.val - 64) = k.val; omega)
    rw [hk'] at e
    exact e

variable (m : (ℓ : Loc nD τ sig) → Buf (Elt Ideal) ℓ)

/-- Both windows move down the rows with the grid, one block per point. -/
theorem index_at : ∀ t : Fin cfg0.N, win0_0.index t = ![(grid0.coords t 0).val, 0] ∧ win0_1.index t = ![(grid0.coords t 0).val, 0] :=
  (by decide +kernel : ∀ t : Fin grid0.N, win0_0.index t = ![(grid0.coords t 0).val, 0] ∧ win0_1.index t = ![(grid0.coords t 0).val, 0])

/-- The kernel's result is the goal of its first argument. -/
theorem final (c : Dev nD) : (dats m 0 c).arrAt 1 cfg0.N = goal (m ((c : Thread nD τ).loc main_arg0)) := by
  refine (dats m 0 c).arrAt_eq_of_covers 1 _ (by decide +kernel) fun t hf y => ?_
  blk_simp
  rw [after0_1]
  idx_vars y
  refine (block_row _ (m ((c : Thread nD τ).loc main_arg0)) y0 (((cfg0.win 1).blk t).view.emb (ix2 y0 y1) 0) (fun k => ?_) y1).trans ?_
  · blk_ext [iblk, V_main_arg0, index_at t]
  · unfold goal
    congr 1
    refine Fin.ext ?_
    blk_simp [index_at t]

end Cert.KernelIdeal.ArrayValue

end
-- ==== Proof.RefValue.lean ====
/- What the reference computes, and what the precondition says. -/
module

public import proofs.«01_k».proof.Proof.Goal
public import proofs.«01_k».proof.Pre_indices_in_order
public import Idealize.ShloMosaic.Lib.ReduceAll

@[expose] public section

noncomputable section

namespace Cert.ReferenceIdeal.Result

open Cert.ReferenceIdeal Cert.ReferenceIdeal.Gen Cert.ReferenceIdeal.Read Cert.ReferenceIdeal.Moves
  Cert.ReferenceIdeal.Order Cert.Rank Cert.Goal Idealize.ShloMosaic Idealize.SL.Sem

/-- The precondition says that the integer argument holds its own positions. -/
theorem inOrder_of_pre [Cert.Pre_indices_in_order.Facts] (x0 : FVec Ideal S65536x128 .f32) (x1 : IVec S64 32)
    (h : Cert.Pre_indices_in_order.fn (F := Ideal) x0 x1 = fun _ => 1#1) : InOrder x1 := by
  intro j
  have h0 := congrFun h ix0
  dsimp only [Cert.Pre_indices_in_order.fn] at h0
  have hj : IntOp.cmpi .eq (x1 (ix1 j)) (BitVec.ofNat 32 j.val) = 1#1 :=
    haveI : Subsingleton Cert.Pre_indices_in_order.S_.Idx := ⟨fun a b => funext fun d => d.elim0⟩
    Host.reduce_andi_all _ _ _ _ ix0 h0 (ix1 j)
  have e : IntOp.cmpi .eq (x1 (ix1 j)) (BitVec.ofNat 32 j.val)
      = BitVec.ofBool (x1 (ix1 j) == BitVec.ofNat 32 j.val) := rfl
  rw [e] at hj
  by_cases hb : x1 (ix1 j) = BitVec.ofNat 32 j.val
  · exact hb
  · rw [beq_eq_false_iff_ne.mpr hb] at hj
    exact absurd hj (by decide)

/-- The ranks as the reference's floats. -/
theorem rank_float (x0 : FVec Ideal S65536x128 .f32) (x1 : IVec S64 32) (h : InOrder x1) (r : Fin 65536) (j : Fin 64) :
    val_main_v9 (F := Ideal) x0 x1 (ix2 r j) = ((rank (head x0 r) j : ℝ) : EReal) := by
  rw [val_main_v9_apply, rank_at x0 x1 h]
  have e : ((BitVec.ofNat 32 (rank (head x0 r) j)).toInt : ℝ) = (rank (head x0 r) j : ℝ) := by
    rw [toInt_small _ (rank_lt _ _)]
    rfl
  exact congrArg (fun z : ℝ => (z : EReal)) e

/-- The reference's last step divides by 64. -/
theorem over_64 (x0 : FVec Ideal S65536x128 .f32) (x1 : IVec S64 32) (i : S65536x128.Idx) :
    val_main_v18 (F := Ideal) x0 x1 i = (val_main_v16 (F := Ideal) x0 x1 i : EReal) * ((1 / 64 : ℝ) : EReal) := by
  rw [val_main_v18_apply, val_main_v17_apply, val_main_cst_apply]
  show Ideal.div _ (Ideal.ofBits .f32 0x42800000#32) = _
  rw [Words.w64]
  exact Ideal.div_coe (by norm_num) _

/-- What the reference returns when the integer argument holds its own positions. -/
theorem value (x0 : FVec Ideal S65536x128 .f32) (x1 : IVec S64 32) (h : InOrder x1) :
    val_main_v18 (F := Ideal) x0 x1 = goal x0 := by
  funext i
  idx_vars i
  rw [over_64]
  show _ = goalAt x0 i0 i1
  unfold goalAt
  by_cases hc : i1.val < 64
  · rw [dif_pos hc, ← rank_float x0 x1 h i0 ⟨i1.val, hc⟩]
    exact congrArg (fun z : EReal => z * ((1 / 64 : ℝ) : EReal))
      (put_cols_first x0 _ (put_words x1 h) (val_main_v9 (F := Ideal) x0 x1) i0 ⟨i1.val, hc⟩)
  · rw [dif_neg hc]
    exact congrArg (fun z : EReal => z * ((1 / 64 : ℝ) : EReal))
      (put_cols_rest x0 _ (put_words x1 h) (val_main_v9 (F := Ideal) x0 x1) i0 i1 (not_lt.mp hc))

end Cert.ReferenceIdeal.Result

end
-- ==== Proof.Equation.lean ====
/- The equation: from memories that agree on the arguments, the kernel and the reference end with the same array. -/
module

public import proofs.«01_k».proof.Defs
public import proofs.«01_k».proof.Proof.ArrayValue
public import proofs.«01_k».proof.Proof.RefValue
public import proofs.«01_k».proof.Proof.Gen.Pre_indices_in_order
public import Idealize.ShloMosaic.Lib.Quiescent

@[expose] public section

noncomputable section

namespace Cert.Equation

open Idealize.ShloMosaic Idealize.ShloMosaic.TcCoe Idealize.SL.Sem Cert.Goal

/-- The reference runs, leaves its arguments, and ends with every counter at zero: it has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run m g)

/-- The kernel ends with the goal of its first argument. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v0)
            = goal (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)) :=
  (θ_run Cert.KernelIdeal.defs _ _).mono
    (fun r h c => ⟨(h c).1.trans (Cert.KernelIdeal.ArrayValue.final m c), (h c).2⟩)
    (Cert.KernelIdeal.Value.run_blocks m g)

/-- When the integer argument holds its own positions, kernel and reference return the same array. -/
theorem equal : Cert.algebraic_KernelIdeal_ReferenceIdeal_pre_indices_in_order
    (hKernelIdeal := Cert.KernelIdeal.Gen.facts) (hReferenceIdeal := Cert.ReferenceIdeal.Gen.facts)
    (hPre_indices_in_order := Cert.Pre_indices_in_order.Gen.facts) := by
  intro m g m' g' hpre hargs
  refine ⟨fun c => goal (m ((c.tc : Thread Cert.KernelIdeal.nD Cert.KernelIdeal.τ).loc Cert.KernelIdeal.main_arg0)),
    kernel_run m g, ?_⟩
  refine (θ_run Cert.ReferenceIdeal.defs _ _).mono (fun r h c => ⟨(h c).1.trans ?_, (h c).2⟩)
    (Cert.ReferenceIdeal.Value.run m' g')
  refine (Cert.ReferenceIdeal.Read.val_main_v18_eq _ _).trans ?_
  rw [(hargs c).1, (hargs c).2]
  exact Cert.ReferenceIdeal.Result.value _ _ (Cert.ReferenceIdeal.Result.inOrder_of_pre _ _ (hpre c))

end Cert.Equation

end
-- ==== Proof.lean ====
/- The claims about the rank kernel, put together: the programs run, leave their arguments and end with every counter at
   zero; the kernel read over the extended reals is the program itself; and it returns what the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_indices_in_order
public import proofs.«01_k».proof.Proof.Gen.KernelIdeal.Value
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything that is claimed of the kernel. -/
theorem claim : Cert.Claim :=
  ⟨Cert.Kernel.Gen.facts, Cert.KernelIdeal.Gen.facts, Cert.ReferenceIdeal.Gen.facts, Cert.Pre_indices_in_order.Gen.facts,
    fun m g _ => Cert.Kernel.Gen.frame m g,
    fun m g _ => Cert.KernelIdeal.Gen.frame m g,
    fun m g _ => Cert.KernelIdeal.Gen.frame m g,
    fun m g _ => Cert.Equation.reference_frame m g,
    fun m g _ => Cert.Equation.reference_frame m g,
    trivial,
    Cert.Equation.equal⟩

end Cert.Proof

end
